-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![256, 512]⟩ ⟨2, ![512, 512]⟩ (Layout.meshBlock [2, 2, 4] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![512, 256]⟩ ⟨2, ![512, 512]⟩ (Layout.meshBlock [2, 2, 4] ![[], [1]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S256x512 : Shape := ⟨2, ![256, 512]⟩
abbrev S512x256 : Shape := ⟨2, ![512, 256]⟩
abbrev S256x256 : Shape := ⟨2, ![256, 256]⟩
abbrev S_ : Shape := ⟨0, ![]⟩

abbrev nBuf : Space → Nat
  | .hbm => 2
  | .vmem => 4
  | .smem => 0
  | _ => 0

abbrev bufTy : (tb : Table) → Fin (tcTables nBuf tb) → BufTy
  | .hbm, ⟨0, _⟩ => ⟨S256x512, .bf16⟩
  | .hbm, ⟨1, _⟩ => ⟨S512x256, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let c0_i32_7 : BitVec 32 := 0#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c256_i32 : BitVec 32 := 256#32
  let v17 : BitVec 32 := Scalar.muli v9 c256_i32
  ![0, v17.toNat]
def k0_off2 (d0 : Dev nD) : Fin 2 → Nat :=
  let c0_i32_9 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_8 : BitVec 32 := 256#32
  let v19 : BitVec 32 := Scalar.muli v5 c256_i32_8
  ![0, v19.toNat]
def k0_off3 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_15 : BitVec 32 := 256#32
  let v26 : BitVec 32 := Scalar.muli v5 c256_i32_15
  let c0_i32_20 : BitVec 32 := 0#32
  ![v26.toNat, 0]
def k0_dev2 (d0 : Dev nD) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v27 : BitVec 32 := Scalar.muli v2 c8_i32_16
  let v28 : BitVec 32 := Scalar.addi c0_i32_17 v27
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_18 : BitVec 32 := 4#32
  let v29 : BitVec 32 := Scalar.muli v9 c4_i32_18
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v31 : BitVec 32 := Scalar.muli v8 c1_i32_19
  let v32 : BitVec 32 := Scalar.addi v30 v31
  v32.toNat
-- ==== Reference.lean ====
abbrev S512x512 : Shape := ⟨2, ![512, 512]⟩

abbrev nBuf : Space → Nat
  | .hbm => 1
  | .vmem => 0
  | .smem => 0
  | _ => 0

abbrev bufTy : (tb : Table) → Fin (tcTables nBuf tb) → BufTy
  | .hbm, ⟨0, _⟩ => ⟨S512x512, .bf16⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Exchange.Mesh.lean ====
/-
# The mesh and the array the exchange assembles

Sixteen devices form a 2 × 2 × 4 mesh: device `c` sits at coordinate `c / 4 % 2` on the middle axis `y`. A 512 × 512
array is cut along its rows by `y` before the kernel and along its columns by `y` after it, so a device and its partner
— the device that differs from it in `y` only — together hold both halves of the rows, and each must end with its
half of the columns of all of them. Nothing here mentions the program: the same facts serve both printings of it.
-/
module

public import Idealize.ShloMosaic.Lib.Layout
public import Idealize.ShloMosaic.Lib.ValueIdxCore

@[expose] public section

noncomputable section

namespace Cert.Exchange

open Idealize.ShloMosaic Idealize.ShloMosaic.ValueIdx

/-- The devices of the mesh. -/
abbrev Node : Type := Fin 16

/-- A device's coordinate on the middle axis: which half of the rows it starts with, and which half of the columns it
    ends with. -/
def half (c : Node) : ℕ := c.val / 4 % 2

/-- The coordinate is 0 or 1. -/
theorem half_lt (c : Node) : half c < 2 := Nat.mod_lt _ (by decide)

set_option backward.proofsInPublic true in
/-- The device at the same place on the other two axes and at the other place on the middle one. -/
def partner (c : Node) : Node :=
  ⟨8 * (c.val / 8) + 4 * (1 - c.val / 4 % 2) + c.val % 4, by have := c.isLt; omega⟩

/-- The partner's partner is the device itself. -/
theorem partner_partner (c : Node) : partner (partner c) = c := by revert c; decide

/-- Partners sit at different coordinates. -/
theorem half_partner (c : Node) : half (partner c) = 1 - half c := by revert c; decide

/-- The shape of what a device starts with, -/
abbrev Wide : Shape := ⟨2, ![256, 512]⟩
/-- of what it ends with, -/
abbrev Tall : Shape := ⟨2, ![512, 256]⟩
/-- of the whole array, -/
abbrev All : Shape := ⟨2, ![512, 512]⟩
/-- and of the piece one transfer moves. -/
abbrev Piece : Shape := ⟨2, ![256, 256]⟩

/-- Of device `c` and its partner, the one that starts with half `h` of the rows. -/
def holder (c : Node) (h : ℕ) : Node := if h = half c then c else partner c

/-- A device holds its own half of the rows, -/
theorem holder_self (c : Node) : holder c (half c) = c := if_pos rfl

/-- and its partner the other. -/
theorem holder_partner (c : Node) : holder c (half (partner c)) = partner c := by revert c; decide

variable {α : Type}

/-- What device `c` is to end with, from what all the devices start with: row `r` comes from the device that holds it
    — row `r % 256` of its block —, cut to `c`'s half of the columns. -/
def assembled (X : Node → Wide.Idx → α) (c : Node) : Tall.Idx → α := fun i =>
  X (holder c ((i 0).val / 256))
    (ix2 (n0 := 256) (n1 := 512) ⟨(i 0).val % 256, Nat.mod_lt _ (by decide)⟩
      ⟨256 * half c + (i 1).val, by have := half_lt c; have := idx2_lt1 (n0 := 512) (n1 := 256) i; omega⟩)

/-- In the rows of half `half d` — `d` being `c` or its partner — the assembled array holds `d`'s block: the element at
    row `256 · half d + r`, column `k`, is that at row `r`, column `256 · half c + k`, of `X d`. -/
theorem assembled_at (X : Node → Wide.Idx → α) {c d : Node} (hd : holder c (half d) = d) {i : Tall.Idx} {j : Wide.Idx}
    {r k : ℕ} (hr : r < 256) (i0 : (i 0).val = 256 * half d + r) (i1 : (i 1).val = k)
    (j0 : (j 0).val = r) (j1 : (j 1).val = 256 * half c + k) : assembled X c i = X d j := by
  have hq : (i 0).val / 256 = half d := by omega
  unfold assembled
  rw [hq, hd]
  refine congrArg (X d) ?_
  rw [eq_ix2 (n0 := 256) (n1 := 512) j]
  congr 1
  · exact Fin.ext (by show (i 0).val % 256 = (j 0).val; omega)
  · exact Fin.ext (by show 256 * half c + (i 1).val = (j 1).val; omega)

/-- The holder of half `h` of the rows does start with half `h`. -/
theorem half_holder (c : Node) : ∀ h < 2, half (holder c h) = h := by revert c; decide

/-- A device's coordinate on the middle axis, as a layout along that axis reads it off the device's number. -/
theorem along_y (d : Node) : Layout.meshLin [2, 2, 4] d.val [1] = half d := by revert d; decide

/-- Started with each device's block of the rows of one whole array, the assembled array of device `c` is its block of
    that array's columns. -/
theorem assembled_blocks (w : All.Idx → α) (X : Node → Wide.Idx → α)
    (hX : ∀ d, X d = Layout.blockN Wide All (Layout.meshBlock [2, 2, 4] ![[1], []] d) w) (c : Node) :
    assembled X c = Layout.blockN Tall All (Layout.meshBlock [2, 2, 4] ![[], [1]] c) w := by
  funext i
  have h0 := idx2_lt0 (n0 := 512) (n1 := 256) i
  have h1 := idx2_lt1 (n0 := 512) (n1 := 256) i
  have hc := half_lt c
  have hh := half_holder c ((i 0).val / 256) (by omega)
  rw [assembled_at X (d := holder c ((i 0).val / 256)) (by rw [hh])
      (j := ix2 (n0 := 256) (n1 := 512) ⟨(i 0).val % 256, by omega⟩ ⟨256 * half c + (i 1).val, by omega⟩)
      (r := (i 0).val % 256) (by omega) (by rw [hh]; omega) rfl rfl rfl,
    hX, Layout.blockN_apply, Layout.blockN_apply]
  refine congrArg w (funext fun a => Fin.ext ?_)
  rw [Layout.TilesN.idx_val, Layout.TilesN.idx_val]
  match a with
  | ⟨0, _⟩ =>
    show Layout.meshLin [2, 2, 4] (holder c ((i 0).val / 256)).val [1] * 256 + (i 0).val % 256 = 0 * 512 + (i 0).val
    rw [along_y, hh]; omega
  | ⟨1, _⟩ =>
    show 0 * 512 + (256 * half c + (i 1).val) = Layout.meshLin [2, 2, 4] c.val [1] * 256 + (i 1).val
    rw [along_y]; omega

end Cert.Exchange

end
-- ==== Proof.KernelIdeal.Blocks.lean ====
/-
# The pieces the kernel moves

The kernel names its operands by offsets computed from the device's number. Here those offsets are read as halves: the
piece a device copies out of its block for its partner is the partner's half of the columns, the piece it keeps is its
own half, and both the device's kept piece and the one it sends land at the rows of the device's own half — the first
in its own result, the second in its partner's. The theorem `lands` is the content: either write leaves, in the rows
it covers, the array `Exchange.assembled` describes.
-/
module

public import proofs.«01_k».proof.Proof.Exchange.Mesh
public import proofs.«01_k».proof.Proof.Gen.KernelIdeal
public import proofs.«01_k».proof.Proof.Gen.KernelIdeal.Skeleton
public import Idealize.ShloMosaic.Lib.ViewIndex
public import Idealize.ShloMosaic.Lib.Memref
public import Idealize.ShloMosaic.Lib.Pipeline.Value

@[expose] public section

noncomputable section

namespace Cert.KernelIdeal.Exchange

open Cert.Exchange
open Cert.KernelIdeal Cert.KernelIdeal.Gen
open Idealize.ShloMosaic Idealize.ShloMosaic.TcCoe

variable {F : FTy → Type} [FloatOps F]

/-! ## The computed offsets, in halves -/

/-- The device the barrier signal goes to is the partner, -/
theorem signal_to (c : Dev nD) : (⟨k0_dev1 c, k0_dev1_lt c⟩ : Dev nD) = partner c := by
  refine Fin.ext ((k0_dev1_eq c).trans ?_)
  show _ = 8 * (c.val / 8) + 4 * (1 - c.val / 4 % 2) + c.val % 4
  omega

/-- and so is the device the transfer goes to. -/
theorem send_to (c : Dev nD) : (⟨k0_dev2 c, k0_dev2_lt c⟩ : Dev nD) = partner c := by
  refine Fin.ext ((k0_dev2_eq c).trans ?_)
  show _ = 8 * (c.val / 8) + 4 * (1 - c.val / 4 % 2) + c.val % 4
  omega

/-- The columns read for the partner are the partner's half, -/
theorem off1_half (c : Dev nD) : k0_off1 c = ![0, 256 * half (partner c)] := by
  rw [k0_off1_eq, half_partner, Nat.mul_sub]; rfl

/-- those kept the device's own, -/
theorem off2_half (c : Dev nD) : k0_off2 c = ![0, 256 * half c] := k0_off2_eq c

/-- and the rows written, here and at the partner, are those of the device's own half. -/
theorem off3_half (c : Dev nD) : k0_off3 c = ![256 * half c, 0] := k0_off3_eq c

/-! ## The memrefs -/

/-- The argument, cut to the partner's half of the columns; -/
abbrev xAway (c : Dev nD) : Memref sig .tc .hbm S256x256 .bf16 :=
  (Memref.whole main_arg0).slice (Rect.unit (s := S256x512) (k0_off1 c) S256x256.size (k0_off1_inb c)) (fun _ => rfl)
/-- the argument, cut to the device's own half of the columns; -/
abbrev xKept (c : Dev nD) : Memref sig .tc .hbm S256x256 .bf16 :=
  (Memref.whole main_arg0).slice (Rect.unit (s := S256x512) (k0_off2 c) S256x256.size (k0_off2_inb c)) (fun _ => rfl)
/-- the result, cut to the rows of device `d`'s half. -/
abbrev oRows (d : Dev nD) : Memref sig .tc .hbm S256x256 .bf16 :=
  (Memref.whole main_v1).slice (Rect.unit (s := S512x256) (k0_off3 d) S256x256.size (k0_off3_inb d)) (fun _ => rfl)

/-! ## The two cuts of the argument, and of the result, are complementary -/

/-- Which entries of the argument the columns sent away are, -/
theorem mem_xAway (c : Dev nD) (i : S256x512.Idx) :
    i ∈ (xAway c).view.set ↔ 256 * half (partner c) ≤ (i 1).val ∧ (i 1).val < 256 * half (partner c) + 256 := by
  have h0 := ValueIdx.idx2_lt0 (n0 := 256) (n1 := 512) i
  have e : (xAway c).view.set = (Rect.unit (s := S256x512) (k0_off1 c) S256x256.size (k0_off1_inb c)).set :=
    View.set_slice_whole _ _
  rw [e, Rect.mem_set_unit, off1_half]
  exact ⟨fun h => h 1, fun h => Fin.forall_fin_two.mpr ⟨⟨Nat.zero_le _, by show (i 0).val < 0 + 256; omega⟩, h⟩⟩

/-- which the kept columns are, -/
theorem mem_xKept (c : Dev nD) (i : S256x512.Idx) :
    i ∈ (xKept c).view.set ↔ 256 * half c ≤ (i 1).val ∧ (i 1).val < 256 * half c + 256 := by
  have h0 := ValueIdx.idx2_lt0 (n0 := 256) (n1 := 512) i
  have e : (xKept c).view.set = (Rect.unit (s := S256x512) (k0_off2 c) S256x256.size (k0_off2_inb c)).set :=
    View.set_slice_whole _ _
  rw [e, Rect.mem_set_unit, off2_half]
  exact ⟨fun h => h 1, fun h => Fin.forall_fin_two.mpr ⟨⟨Nat.zero_le _, by show (i 0).val < 0 + 256; omega⟩, h⟩⟩

/-- and which entries of the result the rows that device `d`'s block fills are. -/
theorem mem_oRows (d : Dev nD) (i : S512x256.Idx) :
    i ∈ (oRows d).view.set ↔ 256 * half d ≤ (i 0).val ∧ (i 0).val < 256 * half d + 256 := by
  have h1 := ValueIdx.idx2_lt1 (n0 := 512) (n1 := 256) i
  have e : (oRows d).view.set = (Rect.unit (s := S512x256) (k0_off3 d) S256x256.size (k0_off3_inb d)).set :=
    View.set_slice_whole _ _
  rw [e, Rect.mem_set_unit, off3_half]
  exact ⟨fun h => h 0, fun h => Fin.forall_fin_two.mpr ⟨h, ⟨Nat.zero_le _, by show (i 1).val < 0 + 256; omega⟩⟩⟩

/-- The two halves of the argument's columns do not meet -/
theorem x_disjoint (c : Dev nD) : Disjoint (xAway c).view.set (xKept c).view.set := by
  refine Finset.disjoint_left.mpr fun i h h' => ?_
  rw [mem_xAway, half_partner] at h
  rw [mem_xKept] at h'
  have := half_lt c; omega

/-- and are all of it; -/
theorem x_union (c : Dev nD) : (xAway c).view.set ∪ (xKept c).view.set = Finset.univ := by
  refine Finset.eq_univ_iff_forall.mpr fun i => ?_
  have h1 := ValueIdx.idx2_lt1 (n0 := 256) (n1 := 512) i
  rw [Finset.mem_union, mem_xAway, mem_xKept, half_partner]
  have := half_lt c; omega

/-- the rows that the two partners fill do not meet -/
theorem o_disjoint (c : Dev nD) : Disjoint (oRows c).view.set (oRows (partner c)).view.set := by
  refine Finset.disjoint_left.mpr fun i h h' => ?_
  rw [mem_oRows] at h h'
  rw [half_partner] at h'
  have := half_lt c; omega

/-- and are all of the result. -/
theorem o_union (c : Dev nD) : (oRows c).view.set ∪ (oRows (partner c)).view.set = Finset.univ := by
  refine Finset.eq_univ_iff_forall.mpr fun i => ?_
  have h0 := ValueIdx.idx2_lt0 (n0 := 512) (n1 := 256) i
  rw [Finset.mem_union, mem_oRows, mem_oRows, half_partner]
  have := half_lt c; omega

/-! ## The contents -/

variable (m : (ℓ : Loc nD τ sig) → Buf (Elt F) ℓ)

/-- Device `c`'s argument at launch: its block of the rows. -/
def given (c : Dev nD) : Wide.Idx → Elt F .bf16 := m ((c : Thread nD τ).loc main_arg0)

/-- The piece of it in the partner's half of the columns, -/
def away (c : Dev nD) : Piece.Idx → Elt F .bf16 := (xAway c).view.read (Elt F) (given m c)

/-- and the piece in its own. -/
def kept (c : Dev nD) : Piece.Idx → Elt F .bf16 := (xKept c).view.read (Elt F) (given m c)

/-- What device `c`'s result is to hold. -/
def wanted (c : Dev nD) : Tall.Idx → Elt F .bf16 := assembled (given m) c

/-- A piece of device `d`'s argument in `c`'s half of the columns, written to the rows of `d`'s half of `c`'s result —
    `d` being `c` or its partner — leaves there what the result is to hold. -/
theorem lands {c d : Dev nD} (hd : holder c (half d) = d) {off : Fin 2 → ℕ} (ho : off = ![0, 256 * half c])
    (inb : ∀ a, off a + S256x256.size a ≤ S256x512.size a) (f : Tall.Idx → Elt F .bf16) (i : Tall.Idx)
    (hi : i ∈ (oRows d).view.set) :
    (oRows d).view.write (Elt F) f
        (((View.whole main_arg0).slice (Rect.unit (s := S256x512) off S256x256.size inb)).read (Elt F) (given m d)) Finset.univ i
      = wanted m c i := by
  obtain ⟨x, -, rfl⟩ := Finset.mem_map.mp hi
  rw [View.write_emb_of_mem _ _ (Finset.mem_univ x), View.read_apply, cast_cast, cast_eq]
  subst ho
  refine (assembled_at (given m) hd (r := (x 0).val) (k := (x 1).val)
    (ValueIdx.idx2_lt0 (n0 := 256) (n1 := 256) x) ?_ ?_ ?_ ?_).symm
  · show k0_off3 d 0 + 1 * (x 0).val = _
    rw [off3_half, Nat.one_mul]; rfl
  · show k0_off3 d 1 + 1 * (x 1).val = _
    rw [off3_half, Nat.one_mul]; exact Nat.zero_add _
  · show 0 + 1 * (x 0).val = _
    omega
  · show 256 * half c + 1 * (x 1).val = _
    omega

/-- The kept piece lands right in the device's own result, -/
theorem kept_lands (c : Dev nD) (f : Tall.Idx → Elt F .bf16) (i : Tall.Idx) (hi : i ∈ (oRows c).view.set) :
    (oRows c).view.write (Elt F) f (kept m c) Finset.univ i = wanted m c i :=
  lands m (holder_self c) (off2_half c) _ f i hi

/-- and the piece for the partner in the partner's. -/
theorem away_lands (c : Dev nD) (f : Tall.Idx → Elt F .bf16) (i : Tall.Idx) (hi : i ∈ (oRows c).view.set) :
    (oRows c).view.write (Elt F) f (away m c) Finset.univ i = wanted m (partner c) i := by
  have h := holder_partner (partner c)
  rw [partner_partner] at h
  exact lands m h (off1_half c) _ f i hi

/-- What the kernel stores between its copies is what it loaded. -/
theorem pay2_eq (v : Piece.Idx → Elt F .bf16) : k0_pay2 v = v := shapeCast_self _ _
/-- The same of the kept piece. -/
theorem pay1_eq (v : Piece.Idx → Elt F .bf16) : k0_pay1 v = v := shapeCast_self _ _

end Cert.KernelIdeal.Exchange

end
-- ==== Proof.KernelIdeal.Protocol.lean ====
/-
# What each wait of the kernel is for

A device waits on six semaphores, once each. Numbered in one list, they are
 * 0, the runtime's barrier semaphore: the partner is in the kernel, so its result may be written to;
 * 1 and 2, the two local copies in: the partner's half of the argument's columns, then the device's own half;
 * 3, the local copy out: the kept piece is in the device's own result;
 * 4, the transfer has been sent: its source may be used again;
 * 5, the partner's transfer has arrived.
Each is raised once, by one party, for one wait. So the schedule of a semaphore has one round with one duty, named by
the semaphore's number, and what the duty pays says which elements the waiter then owns AND what they hold; the values
the kernel computes are all settled here. Number 0 and number 5 are raised by the partner, the others by the device.
-/
module

public import proofs.«01_k».proof.Proof.KernelIdeal.Blocks
public import Idealize.ShloMosaic.Lib.Pipeline.Launch
public import Idealize.ShloMosaic.Lib.Pipeline.Kit
public import Idealize.ShloMosaic.Lib.Tactic

@[expose] public section

noncomputable section

namespace Cert.KernelIdeal.Exchange

open Cert.Exchange
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- Beside the pipeline library's own rounds, the exchange's: duties are the numbers of the semaphores. -/
abbrev UX : Type := URounds (GSem nD τ sig) (Fin 6)
/-- With the bookkeeping of the launch's own pipeline. -/
abbrev UU : Type := UR sig nD τ × UX

local notation "𝕄" => MT nD τ sig Unit (Elt F) ℕ UU ℕ

/-- Where the pipeline's bookkeeping lies, -/
abbrev EP : Emb (UR sig nD τ) (MT nD τ sig Unit (Elt F) ℕ UU ℕ) := embL
/-- and where the exchange's does. -/
abbrev EX : Emb UX (MT nD τ sig Unit (Elt F) ℕ UU ℕ) := embR

variable (m : (ℓ : Loc nD τ sig) → Buf (Elt F) ℓ)

/-! ## The six semaphores -/

/-- The barrier semaphore. -/
abbrev barS : Sem sig := (SemArray.scalar (sig.barrier 0 rfl) : Sems sig S_).sem

/-- The semaphores by number. -/
abbrev csem : Fin 6 → SemLoc sig := fun
  | 0 => .reg barS
  | 1 => .dma cc0_scratch4.sem
  | 2 => .dma cc0_scratch5.sem
  | 3 => .dma cc0_scratch6.sem
  | 4 => .dma cc0_scratch7.sem
  | 5 => .dma cc0_scratch8.sem

/-- Different numbers are different semaphores. -/
theorem csem_injective : Function.Injective csem := by decide

/-- Semaphore `k` of device `c`. -/
abbrev kcell (ck : Dev nD × Fin 6) : GSem nD τ sig := ((ck.1 : Thread nD τ), csem ck.2)

/-- Different pairs are different semaphores of the mesh. -/
theorem kcell_injective : Function.Injective kcell := fun _ _ h =>
  Prod.ext (congrArg (fun g : GSem nD τ sig => g.1.1) h) (csem_injective (congrArg Prod.snd h))

/-- Which device has the semaphore that a device raises as its number `k`. -/
def tgt (k : Fin 6) (c : Dev nD) : Dev nD := if k = 0 ∨ k = 5 then partner c else c

/-- Applied twice, `tgt` gives the device back. -/
theorem tgt_tgt (k : Fin 6) (c : Dev nD) : tgt k (tgt k c) = c := by
  unfold tgt; split
  · exact partner_partner c
  · rfl

/-- From raisers to waiters, as a permutation of the pairs of a device and a number. -/
def across : Dev nD × Fin 6 ≃ Dev nD × Fin 6 :=
  ⟨fun ck => (tgt ck.2 ck.1, ck.2), fun ck => (tgt ck.2 ck.1, ck.2),
    fun ck => Prod.ext (tgt_tgt ck.2 ck.1) rfl, fun ck => Prod.ext (tgt_tgt ck.2 ck.1) rfl⟩

/-- What the machine adds to a semaphore when one piece has been moved. -/
def N : ℕ := (Memref.whole cc0_scratch2 : Memref sig .tc .vmem S256x256 .bf16).view.dmaCredit

/-- A copy raises by a positive amount. -/
theorem N_pos : 0 < N := View.dmaCredit_pos _ (by decide)

/-- What semaphore `k` is raised by: the barrier by a unit, the others by a piece. -/
def amt (k : Fin 6) : ℕ := if k = 0 then 1 else N

/-- Every raise is by a positive amount. -/
theorem amt_pos (k : Fin 6) : 0 < amt k := by
  unfold amt; split
  · exact Nat.one_pos
  · exact N_pos

/-! ## What each raise hands over -/

/-- Device `c` owns the elements `M` shows, and their array holds `f` there. -/
abbrev holds {sp : Space} {s : Shape} {e : EltTy} (c : Dev nD) (M : Memref sig .tc sp s e)
    (f : Buf (Elt F) (M.view.loc (c : Thread nD τ))) : sProp 𝕄 :=
  M.view.loc (c : Thread nD τ) ↦[M.view.set]{fullShare} f

/-- The four buffers the pieces pass through: the columns to send away, as they come in, -/
abbrev awayIn : Memref sig .tc .vmem S256x256 .bf16 := Memref.whole cc0_scratch0
/-- the columns to keep, as they come in, -/
abbrev keptIn : Memref sig .tc .vmem S256x256 .bf16 := Memref.whole cc0_scratch1
/-- the block to send, -/
abbrev awayOut : Memref sig .tc .vmem S256x256 .bf16 := Memref.whole cc0_scratch2
/-- and the block to keep. -/
abbrev keptOut : Memref sig .tc .vmem S256x256 .bf16 := Memref.whole cc0_scratch3

/-- What device `c` gets with its wait number `k`. -/
def pay (k : Fin 6) (c : Dev nD) : sProp 𝕄 := match k with
  | 0 => iprop((∃ f, holds (partner c) (oRows c) f) ∗ reached EX (kcell (partner c, 5)) 0)
  | 1 => iprop(holds c awayIn (away m c) ∗ holds c (xAway c) (given m c))
  | 2 => iprop(holds c keptIn (kept m c) ∗ holds c (xKept c) (given m c))
  | 3 => iprop(holds c (oRows c) (wanted m c) ∗ holds c keptOut (kept m c))
  | 4 => holds c awayOut (away m c)
  | 5 => holds c (oRows (partner c)) (wanted m c)

omit [FloatOps F] in
/-- What is handed over may lie in an invariant. -/
instance pay_storable (k : Fin 6) (c : Dev nD) : BI.Storable (upEmb : UEmb _ 𝕄) (pay m k c) := by
  unfold pay; split <;> infer_instance

/-- The schedule: each of the six has the one duty of its own number, in round 0. -/
def sched : Schedule (GSem nD τ sig) (Fin 6) 𝕄 where
  duties g r := Finset.univ.filter fun k => r = 0 ∧ g.1.2 = .tc ∧ csem k = g.2
  unitless _ := False
  amount _ _ k := amt k
  payload g _ k := pay m k g.1.1
  amount_pos _ _ k _ := amt_pos k

omit [FloatOps F] in
/-- The same of the schedule's payloads. -/
instance sched_storable (g : GSem nD τ sig) (r : ℕ) (k : Fin 6) :
    BI.Storable (upEmb : UEmb _ 𝕄) ((sched m).payload g r k) := pay_storable m k g.1.1

omit [FloatOps F] in
/-- In round 0 semaphore `k` has one duty, number `k`. -/
theorem duties_at (c : Dev nD) (k : Fin 6) : (sched m).duties (kcell (c, k)) 0 = {k} :=
  Finset.ext fun j => by
    show j ∈ Finset.univ.filter _ ↔ _
    rw [Finset.mem_filter, Finset.mem_singleton]
    exact ⟨fun h => csem_injective h.2.2.2, fun h => ⟨Finset.mem_univ _, rfl, rfl, congrArg csem h⟩⟩

omit [FloatOps F] in
/-- So `k` is one of its duties; -/
theorem mem_duties (c : Dev nD) (k : Fin 6) : k ∈ (sched m).duties (kcell (c, k)) 0 := by
  rw [duties_at]; exact Finset.mem_singleton_self k

omit [FloatOps F] in
/-- later rounds have none. -/
theorem duties_later (g : GSem nD τ sig) (r : ℕ) (h : 1 ≤ r) : (sched m).duties g r = ∅ :=
  Finset.filter_eq_empty_iff.mpr fun _ _ h' => absurd h'.1 (by omega)

omit [FloatOps F] in
/-- The round ends when the counter has been raised by `amt k`. -/
theorem expect_at (c : Dev nD) (k : Fin 6) : (sched m).expect (kcell (c, k)) 0 = amt k := by
  unfold Schedule.expect Schedule.amountOf
  rw [duties_at, Finset.sum_singleton]; rfl

omit [FloatOps F] in
/-- What that round's duties hand over together is `pay m k`. -/
theorem rest_at (c : Dev nD) (k : Fin 6) :
    bigSep ((sched m).duties (kcell (c, k)) 0 \ ∅) (fun d => (sched m).payload (kcell (c, k)) 0 d) = pay m k c := by
  rw [Finset.sdiff_empty, duties_at, bigSep_singleton]; rfl

/-! ## What a device owes from the start, and in which order waits may block -/

/-- Once it has signalled, a device owes its partner the transfer; -/
abbrev debt (c : Dev nD) : CellTallies nD τ sig Unit := tallyAt (kcell (partner c, 5)) () N
/-- at the start it owes it the signal too. -/
def owed₀ (c : Dev nD) : CellTallies nD τ sig Unit := debt c + tallyAt (kcell (partner c, 0)) () 1

/-- The levels' one index, on the cores that run the kernel. -/
def L (g : GSem nD τ sig) : Finset Unit := if g.1.2 = .tc then {()} else ∅

/-- Other cores have none, -/
theorem L_of_ne (g : GSem nD τ sig) (h : g.1.2 ≠ .tc) : L g = ∅ := if_neg h
/-- those have it. -/
theorem mem_L (c : Dev nD) (sm : SemLoc sig) : () ∈ L ((c : Thread nD τ), sm) := by
  rw [show L ((c : Thread nD τ), sm) = {()} from if_pos rfl]; exact Finset.mem_singleton_self _

/-- The arrivals come last; everything else comes before them. -/
def lv (g : GSem nD τ sig) (_ : Unit) : ℕ := if g.2 = csem 5 then 1 else 0

omit [FloatOps F] in
/-- While the transfer is owed, every wait but the one for an arrival may block. -/
theorem mayWait (c : Dev nD) (k : Fin 6) (hk : k ≠ 5) :
    (levAts L lv : sProp 𝕄) ⊢ MayWait (c : Thread nD τ) (csem k) () (debt c) := by
  have only {g : GSem nD τ sig} {u : Unit} (h : 0 < debt c g u) : g = kcell (partner c, 5) := by
    by_contra hne
    rw [tallyAt_apply, if_neg fun h' => hne h'.1] at h
    exact Nat.lt_irrefl 0 h
  refine MayOwe.of_cut (L := L) (lev := lv) 0 (fun p hp => ?_) (fun g u hg => ?_) (fun p hp => ?_) (fun g u hg => ?_)
  · rw [Finset.mem_singleton.mp hp]; exact mem_L c _
  · rw [only hg]; exact mem_L _ _
  · rw [Finset.mem_singleton.mp hp]
    exact le_of_eq (if_neg fun h => hk (csem_injective h))
  · rw [only hg]
    exact lt_of_lt_of_eq Nat.zero_lt_one (if_pos rfl).symm

/-! ## What the devices share, and what each brings -/

/-- Every semaphore's invariant, at the names `K`, and that its round 0 is reached. -/
def records (K : Dev nD × Fin 6 → ℕ) : sProp 𝕄 :=
  bigSep Finset.univ fun ck : Dev nD × Fin 6 => iprop(cellInv EX (sched m) (K ck) (kcell ck) ∗ reached EX (kcell ck) 0)

omit [FloatOps F] in
/-- What all devices know may be used again. -/
instance records_persistent (K : Dev nD × Fin 6 → ℕ) : BI.Persistent (records m K) := by unfold records; infer_instance

omit [FloatOps F] in
/-- It holds what is known of each semaphore. -/
theorem records_at (K : Dev nD × Fin 6 → ℕ) (ck : Dev nD × Fin 6) :
    records m K ⊢ iprop(cellInv EX (sched m) (K ck) (kcell ck) ∗ reached EX (kcell ck) 0) :=
  bigSep_elim (Finset.mem_univ ck)

/-- A device's own part: it stands before its six waits, and may raise each number once. -/
def part (c : Dev nD) : sProp 𝕄 :=
  iprop((bigSep Finset.univ fun k : Fin 6 => atPos EX (kcell (c, k)) 0 ∅ 0)
    ∗ bigSep Finset.univ fun k : Fin 6 => dutyTok EX (kcell (tgt k c, k)) 0 k)

/-- What a device starts with, once the semaphores are shared out. -/
def ready (c : Dev nD) : sProp 𝕄 := iprop(∃ K, records m K ∗ part c)

omit [FloatOps F] in
/-- Six things by number are the six things. -/
theorem bigSep_six (Φ : Fin 6 → sProp 𝕄) :
    bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

end Cert.KernelIdeal.Exchange

end
-- ==== Proof.KernelIdeal.Steps.lean ====
/-
# One step of the kernel at a time

Each kind of synchronising operation, as a rule for the exchange's own semaphores: signal the partner, copy a piece
locally, send a piece to the partner, wait for number `k`. They are stated once for all the places in the kernel where
such an operation stands.
-/
module

public import proofs.«01_k».proof.Proof.KernelIdeal.Protocol
public import Idealize.ShloMosaic.Lib.Rounds.Family

@[expose] public section

noncomputable section

namespace Cert.KernelIdeal.Exchange

open Cert.Exchange
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop needs a variant. -/
abbrev 𝒱₀ : Variants := Variants.none

/-! ## Every piece counts the same -/

/-- A piece written through any of these views adds the same amount: the rows of the result, -/
theorem credit_rows (c : Dev nD) : (oRows c).view.dmaCredit = N := rfl
/-- the first buffer, -/
theorem credit_awayIn : awayIn.view.dmaCredit = N := rfl
/-- the second, -/
theorem credit_keptIn : keptIn.view.dmaCredit = N := rfl
/-- and the third. -/
theorem credit_awayOut : awayOut.view.dmaCredit = N := rfl

/-- Every number but the barrier's is raised by that amount. -/
theorem amt_piece {k : Fin 6} (hk : k ≠ 0) : amt k = N := if_neg hk

/-! ## Splitting the two arrays -/

omit [FloatOps F] in
/-- A buffer shown whole. -/
theorem holds_whole (c : Dev nD) (b : Ref sig .tc) (f : Buf (Elt F) ((c : Thread nD τ).loc b)) :
    (holds c (Memref.whole b) f : sProp 𝕄) = (((c : Thread nD τ).loc b) ↦{fullShare} f) := by
  show (((c : Thread nD τ).loc b) ↦[(View.whole b).set]{fullShare} f) = _
  rw [View.set_whole]

omit [FloatOps F] in
/-- The argument is its two halves of columns, -/
theorem x_split (c : Dev nD) (f : Buf (Elt F) ((c : Thread nD τ).loc main_arg0)) :
    ((((c : Thread nD τ).loc main_arg0) ↦{fullShare} f) : sProp 𝕄) ⊣⊢ iprop(holds c (xAway c) f ∗ holds c (xKept c) f) := by
  have h := pointsTo_union (Ix := Unit) (Name := ℕ) (U := UU) (Lvl := ℕ) (ℓ := (c : Thread nD τ).loc main_arg0)
    (q := fullShare) (f := f) (x_disjoint c)
  rwa [x_union] at h

omit [FloatOps F] in
/-- and the result its two halves of rows. -/
theorem o_split (c : Dev nD) (f : Buf (Elt F) ((c : Thread nD τ).loc main_v1)) :
    ((((c : Thread nD τ).loc main_v1) ↦{fullShare} f) : sProp 𝕄) ⊣⊢ iprop(holds c (oRows c) f ∗ holds c (oRows (partner c)) f) := by
  have h := pointsTo_union (Ix := Unit) (Name := ℕ) (U := UU) (Lvl := ℕ) (ℓ := (c : Thread nD τ).loc main_v1)
    (q := fullShare) (f := f) (o_disjoint c)
  rwa [o_union] at h

/-! ## Waits -/

/-- Waiting for number `k`: the device passes it, and gets what it is for. -/
theorem wp_wait_for (K : Dev nD × Fin 6 → ℕ) (c : Dev nD) (k : Fin 6) {w : TpuEff nD τ sig (Elt F) Λ₀ .tc PUnit} {n : ℕ}
    (hw : ∀ Q : PUnit → sProp 𝕄, wpE (defs₀ (F := F)) 𝒱₀ (c : Thread nD τ) none Set.univ w Q
      = waitSpec (c : Thread nD τ) Set.univ (csem k) n Q) (hn : n = amt k)
    {O : CellTallies nD τ sig Unit} {W : Waits sig Unit} {α : Type} {Q : α → sProp 𝕄}
    {rest : PUnit → Prog (TpuEff nD τ sig (Elt F) Λ₀ .tc) α} :
    iprop(records m K ∗ cred (tallyAt (kcell (c, k)) () (amt k)) ∗ owes (c : Thread nD τ) O W
        ∗ MayWait (c : Thread nD τ) (csem k) () O ∗ atPos EX (kcell (c, k)) 0 ∅ 0)
      ⊢ iprop(((owes (c : Thread nD τ) O (insert (csem k, ()) W) ∗ atPos EX (kcell (c, k)) 1 ∅ 0 ∗ pay m k c)
            -∗ wp frame (wpE (defs₀ (F := F)) 𝒱₀ (c : Thread nD τ) none) Set.univ (rest ⟨⟩) Q)
          -∗ wp frame (wpE (defs₀ (F := F)) 𝒱₀ (c : Thread nD τ) none) Set.univ (.op w rest) Q) := by
  subst hn
  iintro ⟨#HR, Hc, HO, Hm, Hat⟩ Hk
  ihave Hi := (records_at m K (c, k)) $$ HR
  icases Hi with ⟨#Hi, -⟩
  iapply (Rounds.wp_wait_rest_token 𝒱₀ EX (sched m) (c : Thread nD τ) none (κ := K (c, k)) hw (Set.mem_univ _) ()
    (O := O) (W := W) (R := 0) (m := 0) (T := ∅) (by rw [Nat.zero_add]; exact (expect_at m c k).symm)) $$ [Hc HO Hm Hat]
  · isplitr; · iexact Hi
    isplitl [Hc]; · iexact Hc
    isplitl [HO]; · iexact HO
    isplitl [Hm] <;> iassumption
  iintro ⟨HO, Hat, -, Hp⟩
  iapply Hk
  isplitl [HO]; · iexact HO
  isplitl [Hat]; · iexact Hat
  iapply (Entails.of_eq (rest_at m c k)); iexact Hp

/-! ## The signal -/

/-- Signalling the partner's barrier semaphore: the device lends it the rows of its own result that it will write. -/
theorem wp_signal_partner (K : Dev nD × Fin 6 → ℕ) (c d : Dev nD) (hd : d = partner c) {n : ℕ} (hn : n = 1)
    (f : Buf (Elt F) ((c : Thread nD τ).loc main_v1)) {W : Waits sig Unit} {α : Type} {Q : α → sProp 𝕄}
    {rest : PUnit → Prog (TpuEff nD τ sig (Elt F) Λ₀ .tc) α} :
    iprop(records m K ∗ owes (c : Thread nD τ) (owed₀ c) W ∗ dutyTok EX (kcell (tgt 0 c, 0)) 0 0
        ∗ holds c (oRows (partner c)) f)
      ⊢ iprop((owes (c : Thread nD τ) (debt c) W
            -∗ wp frame (wpE (defs₀ (F := F)) 𝒱₀ (c : Thread nD τ) none) Set.univ (rest ⟨⟩) Q)
          -∗ wp frame (wpE (defs₀ (F := F)) 𝒱₀ (c : Thread nD τ) none) Set.univ
              (.op (.semSignal (d : Thread nD τ) barS n) rest) Q) := by
  subst hd hn
  have hp : (pay m 0 (partner c) : sProp 𝕄)
      = iprop((∃ f, holds c (oRows (partner c)) f) ∗ reached EX (kcell (c, 5)) 0) := by
    show iprop((∃ f, holds (partner (partner c)) (oRows (partner c)) f) ∗ reached EX (kcell (partner (partner c), 5)) 0) = _
    rw [partner_partner]
  iintro ⟨#HR, HO, Ht, Hf⟩ Hk
  ihave Hi := (records_at m K (partner c, 0)) $$ HR
  icases Hi with ⟨#Hi, #Hr⟩
  ihave Hi5 := (records_at m K (c, 5)) $$ HR
  icases Hi5 with ⟨-, #Hr5⟩
  iapply (Rounds.wp_signal 𝒱₀ EX (sched m) (c : Thread nD τ) none (dst := (partner c : Thread nD τ)) (κ := K (partner c, 0))
    (d := (0 : Fin 6)) (mem_duties m (partner c) 0) (rfl : amt 0 = 1) () (debt c) rfl) $$ [HO Ht Hf]
  · isplitr; · iexact Hi
    isplitl [HO]; · iexact HO
    isplitl [Ht]; · iexact Ht
    isplitl [Hf]
    · iapply (show _ ⊢ (sched m).payload ((partner c : Thread nD τ), .reg barS) 0 0 from Entails.of_eq hp.symm)
      isplitl [Hf]; · iexists f; iexact Hf
      iexact Hr5
    · iexact Hr
  iexact Hk

/-! ## Copies -/

/-- A local copy that raises the device's own number `k`: the device may then wait for `k`. -/
theorem wp_copy_for (K : Dev nD × Fin 6 → ℕ) (c : Dev nD) (k : Fin 6) (hk : tgt k c = c) {sp sp' : Space} {s : Shape} {e : EltTy}
    {src : Memref sig .tc sp s e} {dst : Memref sig .tc sp' s e} {hsrc : src.view.WordExact} {hdst : dst.view.WordExact}
    {hsem : DmaTarget.Typed (nD := nD) (p := (c : Thread nD τ).2) sp (csem k) (.here dst)}
    (fs : Buf (Elt F) (src.view.loc (c : Thread nD τ))) (fd : Buf (Elt F) (dst.view.loc (c : Thread nD τ)))
    (hn : dst.view.amount (csem k) = amt k)
    (hp : iprop(holds c dst (dst.view.write (Elt F) fd (src.view.read (Elt F) fs) Finset.univ) ∗ holds c src fs) ⊢ pay m k c)
    {α : Type} {Q : α → sProp 𝕄} {rest : PUnit → Prog (TpuEff nD τ sig (Elt F) Λ₀ .tc) α} :
    iprop(records m K ∗ holds c src fs ∗ holds c dst fd ∗ dutyTok EX (kcell (tgt k c, k)) 0 k)
      ⊢ iprop((cred (tallyAt (kcell (c, k)) () (amt k))
            -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma src (.here dst) (csem k) hsrc hdst hsem) rest) Q) := by
  rw [hk]
  iintro ⟨#HR, Hs, Hd, Ht⟩ Hk
  ihave Hi := (records_at m K (c, k)) $$ HR
  icases Hi with ⟨#Hi, #Hr⟩
  iapply (Rounds.wp_copy_pointsTo 𝒱₀ EX (sched m) (c : Thread nD τ) none (κ := K (c, k)) (fs := fs) (fd := fd) (r := 0) (d := k)
    (mem_duties m c k) () (amt k) hn rfl hp) $$ [Hs Hd Ht]
  · isplitr; · iexact Hi
    isplitl [Hs]; · iexact Hs
    isplitl [Hd]; · iexact Hd
    isplitl [Ht]; · iexact Ht
    iexact Hr
  iexact Hk

/-- The transfer: the piece goes to the partner's result, in the rows the partner lent; the device then owes nothing,
    and may wait for its buffer to be free again. -/
theorem wp_send_partner (K : Dev nD × Fin 6 → ℕ) (c d : Dev nD) (hd : d = partner c)
    {hsc : (oRows c : Memref sig (Dev.tc d : Thread nD τ).2.kind .hbm S256x256 .bf16).view.ref.isScScratch = false}
    {hsrc : awayOut.view.WordExact} {hdst : (oRows c).view.WordExact}
    {hsem : DmaTarget.Typed .vmem (csem 5) (.remote (Dev.tc d : Thread nD τ) (oRows c) (csem 4) hsc)}
    (fd : Buf (Elt F) ((partner c : Thread nD τ).loc main_v1)) {W : Waits sig Unit}
    {α : Type} {Q : α → sProp 𝕄} {rest : PUnit → Prog (TpuEff nD τ sig (Elt F) Λ₀ .tc) α} :
    iprop(records m K ∗ holds c awayOut (away m c) ∗ holds (partner c) (oRows c) fd ∗ owes (c : Thread nD τ) (debt c) W
        ∗ dutyTok EX (kcell (tgt 4 c, 4)) 0 4 ∗ dutyTok EX (kcell (tgt 5 c, 5)) 0 5)
      ⊢ iprop(((cred (tallyAt (kcell (c, 4)) () (amt 4)) ∗ owes (c : Thread nD τ) 0 W)
            -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma awayOut (.remote (Dev.tc d : Thread nD τ) (oRows c) (csem 4) hsc) (csem 5) hsrc hdst hsem) rest) Q) := by
  subst hd
  have hp : (holds (partner c) (oRows c) ((oRows c).view.write (Elt F) fd (awayOut.view.read (Elt F) (away m c)) Finset.univ) : sProp 𝕄)
      = pay m 5 (partner c) := by
    show _ = holds (partner c) (oRows (partner (partner c))) (wanted m (partner c))
    rw [partner_partner]
    exact pointsTo_congr fun i hi => away_lands m c fd i hi
  iintro ⟨#HR, Hs, Hd, HO, Ht4, Ht5⟩ Hk
  ihave Hi4 := (records_at m K (c, 4)) $$ HR
  icases Hi4 with ⟨#Hi4, #Hr4⟩
  ihave Hi5 := (records_at m K (partner c, 5)) $$ HR
  icases Hi5 with ⟨#Hi5, #Hr5⟩
  iapply (Rounds.wp_send_pointsTo 𝒱₀ EX (sched m) (c : Thread nD τ) none (κ₁ := K (c, 4)) (κ₂ := K (partner c, 5))
    (c' := (partner c : Thread nD τ)) (src := awayOut) (dst := oRows c) (fs := away m c) (fd := fd) (r₁ := 0) (r₂ := 0) (d₁ := (4 : Fin 6)) (d₂ := (5 : Fin 6))
    (sS := csem 4) (sem := csem 5) (by exact mem_duties m c 4) (by exact mem_duties m (partner c) 5) () () N
    (by exact credit_rows c) (by exact amt_piece (k := 4) (by decide)) (by exact amt_piece (k := 5) (by decide)) 0 (by rw [zero_add]) (W := W)
    (BI.Entails.refl _) (Entails.of_eq hp)) $$ [Hs Hd HO Ht4 Ht5]
  · isplitr; · iexact Hi4
    isplitr; · iexact Hi5
    isplitl [Hs]; · iexact Hs
    isplitl [Hd]; · iexact Hd
    isplitl [HO]; · iexact HO
    isplitl [Ht4]; · iexact Ht4
    isplitr; · iexact Hr4
    isplitl [Ht5]; · iexact Ht5
    iexact Hr5
  iexact Hk

/-! ## The end -/

omit [FloatOps F] in
/-- When all six waits are behind it, a device has its six semaphores back, each at zero. -/
theorem close_all (K : Dev nD × Fin 6 → ℕ) (c : Dev nD) :
    iprop(records m K ∗ bigSep Finset.univ fun k : Fin 6 => atPos EX (kcell (c, k)) 1 ∅ 0)
      ⊢ (|={Set.univ}=> bigSep Finset.univ fun k : Fin 6 => semVal (kcell (c, k)) 0 : sProp 𝕄) := by
  have each : ∀ k ∈ (Finset.univ : Finset (Fin 6)), iprop(records m K ∗ atPos EX (kcell (c, k)) 1 ∅ 0)
      ⊢ (iprop(cellInv EX (sched m) (K (c, k)) (kcell (c, k)) ∗ atPos EX (kcell (c, k)) 1 ∅ 0) : sProp 𝕄) := fun k _ => by
    iintro ⟨#HR, Hat⟩
    ihave Hi := (records_at m K (c, k)) $$ HR
    icases Hi with ⟨#Hi, -⟩
    isplitr; · iexact Hi
    iexact Hat
  exact (Idealize.SL.BI.bigSep_with_persistent each).trans
    (Rounds.cells_close EX (sched m) Finset.univ (fun k : Fin 6 => kcell (c, k)) (fun k => K (c, k)) (fun _ _ => Set.mem_univ _)
      (fun _ _ h => h) (fun _ => 1) fun k _ => duties_later m (kcell (c, k)))

end Cert.KernelIdeal.Exchange

end
-- ==== Proof.KernelIdeal.Body.lean ====
/-
# The kernel on one device

The whole body, from what a device starts with to what it ends with: its argument unchanged, its result assembled, its
six semaphores at zero again.
-/
module

public import proofs.«01_k».proof.Proof.KernelIdeal.Steps
public import proofs.«01_k».proof.Proof.Gen.KernelIdeal.Launch

@[expose] public section

noncomputable section

namespace Cert.KernelIdeal.Exchange

open Cert.Exchange
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

/-! ## Before and after -/

/-- A device's four buffers, at any contents. -/
def buffers (c : Dev nD) : sProp 𝕄 :=
  iprop((∃ f, holds c awayIn f) ∗ (∃ f, holds c keptIn f) ∗ (∃ f, holds c awayOut f) ∗ (∃ f, holds c keptOut f))

/-- Its two arrays: the argument as given, the result at `f`. -/
def arrays (c : Dev nD) (f : Buf (Elt F) ((c : Thread nD τ).loc main_v1)) : sProp 𝕄 :=
  iprop((((c : Thread nD τ).loc main_arg0) ↦{fullShare} given m c) ∗ (((c : Thread nD τ).loc main_v1) ↦{fullShare} f))

/-- What the device may count on being raised by its partner: the signal and the arrival. -/
def promised (c : Dev nD) : sProp 𝕄 :=
  iprop(cred (tallyAt (kcell (c, 0)) () (amt 0)) ∗ cred (tallyAt (kcell (c, 5)) () (amt 5)))

/-- What a device starts with, its buffers aside. -/
def start (c : Dev nD) : sProp 𝕄 :=
  iprop(ready m c ∗ promised c ∗ levAts L lv ∗ arrays m c (m ((c : Thread nD τ).loc main_v1)))

/-- What it ends with, its buffers aside. -/
def done (c : Dev nD) : sProp 𝕄 :=
  iprop(arrays m c (wanted m c) ∗ bigSep Finset.univ fun k : Fin 6 => semVal (kcell (c, k)) 0)

/-- The launch's data: the kernel has no pipelined windows, so all it needs is the state around its one point. -/
def dats (_ : Fin 1) (c : Dev nD) : Dat τ (Elt F) Unit ℕ UU ℕ cfg0 c where
  A w := w.elim0
  after w _ := w.elim0
  Φ t := match t with
    | ⟨0, _⟩ => iprop(start m c ∗ buffers c)
    | ⟨_ + 1, _⟩ => iprop(done m c ∗ buffers c)
  q _ := fullShare
  owed t := match t with
    | ⟨0, _⟩ => owed₀ c
    | ⟨_ + 1, _⟩ => 0

/-! ## Loading and storing a whole buffer -/

/-- The rectangle that a load or a store of a whole buffer names. -/
abbrev r0 : Rect S256x256 := Rect.unit (s := S256x256) ![0, 0] S256x256.size inb_S256x256_S256x256_0_0

/-- The two zero offsets are the zero offset. -/
theorem hz : (![0, 0] : Fin 2 → ℕ) = fun _ => 0 := by funext a; fin_cases a <;> rfl

omit [FloatOps F] in
/-- A load of the whole buffer reads what the buffer holds: the columns to send away, -/
theorem read_awayIn (f : Piece.Idx → Elt F .bf16) : awayIn.view.readAt (Elt F) r0.toLoadRect f = f :=
  Memref.readAt_unit_zero (Elt F) cc0_scratch0 hz _ f
omit [FloatOps F] in
/-- the columns to keep. -/
theorem read_keptIn (f : Piece.Idx → Elt F .bf16) : keptIn.view.readAt (Elt F) r0.toLoadRect f = f :=
  Memref.readAt_unit_zero (Elt F) cc0_scratch1 hz _ f

/-- Storing what was loaded leaves what was loaded. -/
theorem store_awayOut (f w : Piece.Idx → Elt F .bf16) :
    (awayOut.access r0 : View sig .tc _ _ _).write (Elt F) f (k0_pay2 w) Finset.univ = w := by
  rw [pay2_eq]; exact Memref.write_access_unit_zero_univ (Elt F) cc0_scratch2 hz _ f w
/-- And the same of the columns to keep. -/
theorem store_keptOut (f w : Piece.Idx → Elt F .bf16) :
    (keptOut.access r0 : View sig .tc _ _ _).write (Elt F) f (k0_pay1 w) Finset.univ = w := by
  rw [pay1_eq]; exact Memref.write_access_unit_zero_univ (Elt F) cc0_scratch3 hz _ f w

/-! ## What the waits give, written out -/

section
omit [FloatOps F]
/-- What the wait for number 0 hands over — the partner's rows to write, and that the partner is in its round —, spelt out; -/
theorem got0 (c : Dev nD) : (pay m 0 c : sProp 𝕄) ⊢ iprop((∃ f, holds (partner c) (oRows c) f) ∗ reached EX (kcell (partner c, 5)) 0) := Entails.of_eq rfl
/-- number 1, the columns to send away, read; -/
theorem got1 (c : Dev nD) : (pay m 1 c : sProp 𝕄) ⊢ iprop(holds c awayIn (away m c) ∗ holds c (xAway c) (given m c)) := Entails.of_eq rfl
/-- number 2, the kept columns, read; -/
theorem got2 (c : Dev nD) : (pay m 2 c : sProp 𝕄) ⊢ iprop(holds c keptIn (kept m c) ∗ holds c (xKept c) (given m c)) := Entails.of_eq rfl
/-- number 3, the kept rows written; -/
theorem got3 (c : Dev nD) : (pay m 3 c : sProp 𝕄) ⊢ iprop(holds c (oRows c) (wanted m c) ∗ holds c keptOut (kept m c)) := Entails.of_eq rfl
/-- number 4, the sent buffer back; -/
theorem got4 (c : Dev nD) : (pay m 4 c : sProp 𝕄) ⊢ holds c awayOut (away m c) := Entails.of_eq rfl
/-- number 5, the rows that the partner has written. -/
theorem got5 (c : Dev nD) : (pay m 5 c : sProp 𝕄) ⊢ holds c (oRows (partner c)) (wanted m c) := Entails.of_eq rfl
end

/-! ## What the three local copies hand over -/

omit [FloatOps F] in
/-- The columns to send away have been read into their buffer; -/
theorem hand1 (c : Dev nD) (f : Buf (Elt F) ((c : Thread nD τ).loc cc0_scratch0)) :
    iprop(holds c awayIn (awayIn.view.write (Elt F) f ((xAway c).view.read (Elt F) (given m c)) Finset.univ) ∗ holds c (xAway c) (given m c))
      ⊢ (pay m 1 c : sProp 𝕄) :=
  Entails.of_eq (congrArg (fun g => iprop(holds c awayIn g ∗ holds c (xAway c) (given m c))) (View.write_whole_univ _ _ _))
omit [FloatOps F] in
/-- the columns to keep have been read into theirs; -/
theorem hand2 (c : Dev nD) (f : Buf (Elt F) ((c : Thread nD τ).loc cc0_scratch1)) :
    iprop(holds c keptIn (keptIn.view.write (Elt F) f ((xKept c).view.read (Elt F) (given m c)) Finset.univ) ∗ holds c (xKept c) (given m c))
      ⊢ (pay m 2 c : sProp 𝕄) :=
  Entails.of_eq (congrArg (fun g => iprop(holds c keptIn g ∗ holds c (xKept c) (given m c))) (View.write_whole_univ _ _ _))
/-- the kept piece has been written to the result, where it is right. -/
theorem hand3 (c : Dev nD) (f : Buf (Elt F) ((c : Thread nD τ).loc main_v1)) :
    iprop(holds c (oRows c) ((oRows c).view.write (Elt F) f (keptOut.view.read (Elt F) (kept m c)) Finset.univ) ∗ holds c keptOut (kept m c))
      ⊢ (pay m 3 c : sProp 𝕄) :=
  sep_mono_left (Entails.of_eq (pointsTo_congr fun i hi => kept_lands m c f i hi))

/-! ## The body -/

/-- The body, one rule per operation in the order of the program. -/
theorem body_sound (c : Dev nD) (K : Dev nD × Fin 6 → ℕ) (W : Waits sig Unit) (Q : PUnit → sProp 𝕄) :
    iprop((records m K ∗ part c ∗ promised c ∗ levAts L lv ∗ arrays m c (m ((c : Thread nD τ).loc main_v1))
          ∗ buffers c ∗ owes (c : Thread nD τ) (owed₀ c) W)
        ∗ ((done m c ∗ buffers c ∗ ∃ W', owes (c : Thread nD τ) 0 W') -∗ Q ⟨⟩))
      ⊢ wp frame (wpE (defs₀ (F := F)) 𝒱₀ (c : Thread nD τ) none) Set.univ
          (cc0_body (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8) Q := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold part promised arrays buffers
  rw [bigSep_six, bigSep_six]
  iintro ⟨⟨#HR, ⟨⟨Ha0, Ha1, Ha2, Ha3, Ha4, Ha5⟩, ⟨Ht0, Ht1, Ht2, Ht3, Ht4, Ht5⟩⟩, ⟨Hc0, Hc5⟩, #Hlev, ⟨Hx, Ho⟩,
    ⟨⟨%f0, Hb0⟩, ⟨%f1, Hb1⟩, ⟨%f2, Hb2⟩, ⟨%f3, Hb3⟩⟩, HO⟩, Hk⟩
  ihave Hx' := (x_split c (given m c)).1 $$ Hx
  icases Hx' with ⟨HxA, HxK⟩
  ihave Ho' := (o_split c (m ((c : Thread nD τ).loc main_v1))).1 $$ Ho
  icases Ho' with ⟨HoK, HoA⟩
  -- the signal lends the partner the rows it will write
  iapply (wp_signal_partner m K c _ (signal_to c) (by decide) (m ((c : Thread nD τ).loc main_v1))) $$ [HO Ht0 HoA]
  · isplitr; · iexact HR
    isplitl [HO]; · iexact HO
    isplitl [Ht0] <;> iassumption
  iintro HO
  -- the two copies in
  iapply (wp_copy_for m K c 1 rfl (src := xAway c) (dst := awayIn) (given m c) f0 credit_awayIn (hand1 m c f0)) $$ [HxA Hb0 Ht1]
  · isplitr; · iexact HR
    isplitl [HxA]; · iexact HxA
    isplitl [Hb0] <;> iassumption
  iintro Hc1
  iapply (wp_copy_for m K c 2 rfl (src := xKept c) (dst := keptIn) (given m c) f1 credit_keptIn (hand2 m c f1)) $$ [HxK Hb1 Ht2]
  · isplitr; · iexact HR
    isplitl [HxK]; · iexact HxK
    isplitl [Hb1] <;> iassumption
  iintro Hc2
  -- the first of them is waited for, and passed through registers to the buffer it is sent from
  iapply (wp_wait_for m K c 1 (wpE_waitDma2_eq 𝒱₀ (c : Thread nD τ) none Set.univ) credit_awayIn) $$ [Hc1 HO Ha1]
  · isplitr; · iexact HR
    isplitl [Hc1]; · iexact Hc1
    isplitl [HO]; · iexact HO
    isplitr; · iapply (mayWait c 1 (by decide)); iexact Hlev
    iexact Ha1
  iintro ⟨HO, Ha1, Hp⟩
  ihave Hp := (got1 m c) $$ Hp
  icases Hp with ⟨Hb0, HxA⟩
  iapply (wp_load 𝒱₀ (c : Thread nD τ) none Set.univ (m := awayIn) (by rw [View.set_whole]; exact Finset.subset_univ _)) $$ Hb0; iintro Hb0
  rw [read_awayIn]
  iapply (wp_load 𝒱₀ (c : Thread nD τ) none Set.univ (m := awayOut) (by rw [View.set_whole]; exact Finset.subset_univ _)) $$ Hb2; iintro Hb2
  iapply (wp_store 𝒱₀ (c : Thread nD τ) none Set.univ (m := awayOut) (r := r0) (Mk := Finset.univ)
    (by rw [View.set_whole]; exact Finset.subset_univ _)) $$ Hb2; iintro Hb2
  rw [store_awayOut]
  -- the partner's signal: its rows are lent
  iapply (wp_wait_for m K c 0 (wpE_semWait_eq 𝒱₀ (c : Thread nD τ) none Set.univ) (by decide)) $$ [Hc0 HO Ha0]
  · isplitr; · iexact HR
    isplitl [Hc0]; · iexact Hc0
    isplitl [HO]; · iexact HO
    isplitr; · iapply (mayWait c 0 (by decide)); iexact Hlev
    iexact Ha0
  iintro ⟨HO, Ha0, Hp⟩
  ihave Hp := (got0 m c) $$ Hp
  icases Hp with ⟨⟨%fn, HoP⟩, -⟩
  iapply (wp_send_partner m K c _ (send_to c) fn) $$ [Hb2 HoP HO Ht4 Ht5]
  · isplitr; · iexact HR
    isplitl [Hb2]; · iexact Hb2
    isplitl [HoP]; · iexact HoP
    isplitl [HO]; · iexact HO
    isplitl [Ht4] <;> iassumption
  iintro ⟨Hc4, HO⟩
  -- the second copy in, passed to the buffer it is copied out of
  iapply (wp_wait_for m K c 2 (wpE_waitDma2_eq 𝒱₀ (c : Thread nD τ) none Set.univ) credit_keptIn) $$ [Hc2 HO Ha2]
  · isplitr; · iexact HR
    isplitl [Hc2]; · iexact Hc2
    isplitl [HO]; · iexact HO
    isplitr; · rw [MayWait_zero]; iempintro
    iexact Ha2
  iintro ⟨HO, Ha2, Hp⟩
  ihave Hp := (got2 m c) $$ Hp
  icases Hp with ⟨Hb1, HxK⟩
  iapply (wp_load 𝒱₀ (c : Thread nD τ) none Set.univ (m := keptIn) (by rw [View.set_whole]; exact Finset.subset_univ _)) $$ Hb1; iintro Hb1
  rw [read_keptIn]
  iapply (wp_load 𝒱₀ (c : Thread nD τ) none Set.univ (m := keptOut) (by rw [View.set_whole]; exact Finset.subset_univ _)) $$ Hb3; iintro Hb3
  iapply (wp_store 𝒱₀ (c : Thread nD τ) none Set.univ (m := keptOut) (r := r0) (Mk := Finset.univ)
    (by rw [View.set_whole]; exact Finset.subset_univ _)) $$ Hb3; iintro Hb3
  rw [store_keptOut]
  iapply (wp_copy_for m K c 3 rfl (src := keptOut) (dst := oRows c) (kept m c) (m ((c : Thread nD τ).loc main_v1)) (credit_rows c)
    (hand3 m c _)) $$ [Hb3 HoK Ht3]
  · isplitr; · iexact HR
    isplitl [Hb3]; · iexact Hb3
    isplitl [HoK] <;> iassumption
  iintro Hc3
  -- the last three waits
  iapply (wp_wait_for m K c 3 (wpE_waitDma2_eq 𝒱₀ (c : Thread nD τ) none Set.univ) (credit_rows c)) $$ [Hc3 HO Ha3]
  · isplitr; · iexact HR
    isplitl [Hc3]; · iexact Hc3
    isplitl [HO]; · iexact HO
    isplitr; · rw [MayWait_zero]; iempintro
    iexact Ha3
  iintro ⟨HO, Ha3, Hp⟩
  ihave Hp := (got3 m c) $$ Hp
  icases Hp with ⟨HoK, Hb3⟩
  iapply (wp_wait_for m K c 4 (wpE_waitDma2_eq 𝒱₀ (c : Thread nD τ) none Set.univ) credit_awayOut) $$ [Hc4 HO Ha4]
  · isplitr; · iexact HR
    isplitl [Hc4]; · iexact Hc4
    isplitl [HO]; · iexact HO
    isplitr; · rw [MayWait_zero]; iempintro
    iexact Ha4
  iintro ⟨HO, Ha4, Hp⟩
  ihave Hb2 := (got4 m c) $$ Hp
  iapply (wp_wait_for m K c 5 (wpE_waitDma2_eq 𝒱₀ (c : Thread nD τ) none Set.univ) (credit_rows c)) $$ [Hc5 HO Ha5]
  · isplitr; · iexact HR
    isplitl [Hc5]; · iexact Hc5
    isplitl [HO]; · iexact HO
    isplitr; · rw [MayWait_zero]; iempintro
    iexact Ha5
  iintro ⟨HO, Ha5, Hp⟩
  ihave HoA := (got5 m c) $$ Hp
  -- the semaphores are the device's again, and the halves are put together
  imod (close_all m K c) $$ [Ha0 Ha1 Ha2 Ha3 Ha4 Ha5] with Hz
  · isplitr; · iexact HR
    rw [bigSep_six]
    isplitl [Ha0]; · iexact Ha0
    isplitl [Ha1]; · iexact Ha1
    isplitl [Ha2]; · iexact Ha2
    isplitl [Ha3]; · iexact Ha3
    isplitl [Ha4] <;> iassumption
  rw [wp_ret]; imodintro
  iapply Hk
  unfold done arrays
  isplitl [HxA HxK HoK HoA Hz]
  · isplitl [HxA HxK HoK HoA]
    · isplitl [HxA HxK]
      · iapply (x_split c (given m c)).2
        isplitl [HxA] <;> iassumption
      · iapply (o_split c (wanted m c)).2
        isplitl [HoK] <;> iassumption
    · iexact Hz
  isplitl [Hb0 Hb1 Hb2 Hb3]
  · isplitl [Hb0]; · iexists _; iexact Hb0
    isplitl [Hb1]; · iexists _; iexact Hb1
    isplitl [Hb2]; · iexists _; iexact Hb2
    iexists _; iexact Hb3
  iexists _; iexact HO

/-- The library's obligation for the kernel's one point. -/
theorem body_obligation (c : Dev nD) : BodyObligation (dats (F := F) m 0 c) (defs₀ (F := F)) 𝒱₀ () Set.univ := fun t => by
  rw [fin_N0 t, show (Finset.univ : Finset (Fin cfg0.W)) = ∅ from rfl, bigSep_empty, bigSep_empty]
  show iprop((start m c ∗ buffers c) ∗ (dats m 0 c).owesAt () t0_0.castSucc ∗ emp)
    ⊢ wp frame (wpE (defs₀ (F := F)) 𝒱₀ (c : Thread nD τ) none) Set.univ
        (cc0_body (Memref.whole main_arg0) (Memref.isWhole_whole _) (Memref.whole main_v1) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8)
        (fun _ => iprop((done m c ∗ buffers c) ∗ (dats m 0 c).owesAt () t0_0.succ ∗ emp))
  unfold start ready Dat.owesAt Pipeline.owesWithin
  iintro ⟨⟨⟨⟨%K, HR, Hp⟩, Hc, Hlev, Hx⟩, Hb⟩, ⟨%W, %hW, HO⟩, -⟩
  iapply (body_sound m c K W _)
  isplitl
  · isplitl [HR]; · iexact HR
    isplitl [Hp]; · iexact Hp
    isplitl [Hc]; · iexact Hc
    isplitl [Hlev]; · iexact Hlev
    isplitl [Hx]; · iexact Hx
    isplitl [Hb]; · iexact Hb
    iexact HO
  · iintro ⟨Hd, Hb, ⟨%W', HO⟩⟩
    isplitl [Hd Hb]
    · isplitl [Hd] <;> iassumption
    isplitl [HO]
    · iexists W'
      isplitr; · ipureintro; exact fun _ _ => Or.inl trivial
      iexact HO
    · iempintro

end Cert.KernelIdeal.Exchange

end
-- ==== Proof.KernelIdeal.Deal.lean ====
/-
# Sharing out the semaphores

What the launch has in one place is dealt to the devices: every semaphore's round state and its counter become an
invariant that all the devices know, and each device gets the positions of its own six semaphores and the right to
raise the six it raises. Also, what all the devices together owe a device is what it may count on.
-/
module

public import proofs.«01_k».proof.Proof.KernelIdeal.Body

@[expose] public section

noncomputable section

namespace Cert.KernelIdeal.Exchange

open Cert.Exchange
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

/-! ## What there is at the launch -/

/-- The kernel's own semaphores are the five of its scratch operands. -/
abbrev osem : Fin 5 → SemLoc sig := fun k => csem k.succ

/-- They are the kernel's own: scoped, and different from one another. -/
theorem ownSemFacts : Pipeline.OwnSemFacts cfg0.spec osem := by decide

/-- Different semaphores have different rights. -/
theorem tok_injective : Function.Injective fun ck : Dev nD × Fin 6 => ((kcell ck, 0, ck.2) : GSem nD τ sig × ℕ × Fin 6) :=
  fun _ _ h => kcell_injective (congrArg Prod.fst h)

/-- All the exchange's semaphores, -/
def allCells : Finset (GSem nD τ sig) := Finset.univ.map ⟨kcell, kcell_injective⟩
/-- and the right to raise each of them once. -/
def allToks : Finset (GSem nD τ sig × ℕ × Fin 6) := Finset.univ.map ⟨_, tok_injective⟩

/-- The launch's bookkeeping: the pipeline's (which has no window), and the exchange's semaphores, all in round 0. -/
def u₀ : UU := (initOf (Pipeline.cells cfgs cellOf_inj) (Pipeline.launchToks cfgs cellOf_inj), initOf allCells allToks)

/-- What one semaphore contributes: its state, its position, that it is in round 0, the right to raise it. -/
def fresh (ck : Dev nD × Fin 6) : sProp 𝕄 :=
  iprop(roundState EX (sched m) (kcell ck) 0 ∗ reached EX (kcell ck) 0 ∗ atPos EX (kcell ck) 0 ∅ 0 ∗ dutyTok EX (kcell ck) 0 ck.2)

/-- What one device's semaphores contribute. -/
def dealt (c : Dev nD) : sProp 𝕄 := bigSep Finset.univ fun k : Fin 6 => fresh m (c, k)

section
omit [FloatOps F]

/-- The bookkeeping is dealt to the devices. -/
theorem fund_all : BI.own (EX (initOf allCells allToks)) ⊢ (|==> bigSep Finset.univ (dealt m) : sProp 𝕄) := by
  have e : (bigSep Finset.univ (dealt m) : sProp 𝕄) = iprop(bigSep allCells (fun g => roundState EX (sched m) g 0)
      ∗ bigSep allCells (fun g => reached EX g 0) ∗ bigSep allCells (fun g => atPos EX g 0 ∅ 0)
      ∗ bigSep allToks (fun x => dutyTok EX x.1 x.2.1 x.2.2)) := by
    unfold allCells allToks dealt
    rw [bigSep_map, bigSep_map, bigSep_map, bigSep_map, ← bigSep_univ_prod (fresh m), ← bigSep_sep', ← bigSep_sep', ← bigSep_sep']
    rfl
  rw [e]
  exact Rounds.fund EX (sched m) allCells allToks

/-! ## From counters to invariants -/

/-- The kernel's own counters at zero, one by one; -/
theorem own_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0) := by
  rw [Pipeline.ownSems0_eq_of_list c osem [0, 1, 2, 3, 4] (by decide) (by decide)]; rfl

/-- the barrier's counter is the only other one. -/
theorem unscoped_eq (c : Dev nD) : (unscopedSems0 c : sProp 𝕄) = semVal (kcell (c, 0)) 0 := by
  unfold unscopedSems0; rw [bigSep_eq_bigSepL_of_eq [SemLoc.reg barS] (by decide) (by decide)]; rfl

/-- A device's six counters, the kernel's own five and the barrier's. -/
theorem counters_eq (c : Dev nD) :
    (bigSep Finset.univ fun k : Fin 6 => (semVal (kcell (c, k)) 0 : sProp 𝕄))
      = iprop(unscopedSems0 c ∗ Pipeline.ownSems0 (Ix := Unit) (Name := ℕ) (U := UU) (Lvl := ℕ) (Val := Elt F) (τ := τ) osem c) := by
  rw [bigSep_six, own_eq, unscoped_eq]

/-- One semaphore: its counter and its state go into an invariant. -/
theorem alloc_one (ck : Dev nD × Fin 6) :
    iprop(semVal (kcell ck) 0 ∗ fresh m ck)
      ⊢ (|={Set.univ}=> iprop((∃ κ : ℕ, cellInv EX (sched m) κ (kcell ck) ∗ reached EX (kcell ck) 0)
          ∗ atPos EX (kcell ck) 0 ∅ 0 ∗ dutyTok EX (kcell ck) 0 ck.2) : sProp 𝕄) := by
  unfold fresh
  iintro ⟨Hv, Hs, Hr, Hp, Ht⟩
  imod (show iprop(semVal (kcell ck) 0 ∗ roundState EX (sched m) (kcell ck) 0)
      ⊢ (|={Set.univ}=> ∃ κ : ℕ, cellInv EX (sched m) κ (kcell ck) : sProp 𝕄)
    from (Rounds.body_intro EX (sched m) (kcell ck)).trans inv_alloc) $$ [Hv Hs] with ⟨%κ, Hi⟩
  · isplitl [Hv] <;> iassumption
  imodintro
  isplitl [Hi Hr]
  · iexists κ
    isplitl [Hi] <;> iassumption
  isplitl [Hp] <;> iassumption

/-- The rights are dealt to the devices that raise, the positions to those that wait. -/
theorem parts_eq : (bigSep Finset.univ fun ck : Dev nD × Fin 6 => iprop(atPos EX (kcell ck) 0 ∅ 0 ∗ dutyTok EX (kcell ck) 0 ck.2) : sProp 𝕄)
    = bigSep Finset.univ part := by
  rw [bigSep_sep', bigSep_univ_equiv across fun ck : Dev nD × Fin 6 => (dutyTok EX (kcell ck) 0 ck.2 : sProp 𝕄),
    bigSep_univ_prod, bigSep_univ_prod, ← bigSep_sep']
  rfl

/-- All the semaphores at once, those of the kernel and the runtime's barrier. -/
theorem share_out :
    (bigSep Finset.univ fun c => iprop(Pipeline.ownSems0 (Ix := Unit) (Name := ℕ) (U := UU) (Lvl := ℕ) (Val := Elt F) (τ := τ) osem c
        ∗ unscopedSems0 c ∗ dealt m c) : sProp 𝕄)
      ⊢ |={Set.univ}=> bigSep Finset.univ (ready m) := by
  have gather (c : Dev nD) : iprop(Pipeline.ownSems0 (Ix := Unit) (Name := ℕ) (U := UU) (Lvl := ℕ) (Val := Elt F) (τ := τ) osem c
        ∗ unscopedSems0 c ∗ dealt m c)
      ⊢ (bigSep Finset.univ fun k : Fin 6 => iprop(semVal (kcell (c, k)) 0 ∗ fresh m (c, k)) : sProp 𝕄) := by
    rw [bigSep_sep', counters_eq]
    unfold dealt
    iintro ⟨Ho, Hu, Hd⟩
    isplitl [Ho Hu]
    · isplitl [Hu] <;> iassumption
    iexact Hd
  have step : (bigSep Finset.univ fun ck : Dev nD × Fin 6 => iprop(semVal (kcell ck) 0 ∗ fresh m ck) : sProp 𝕄)
      ⊢ |={Set.univ}=> iprop((bigSep Finset.univ fun ck : Dev nD × Fin 6 =>
            iprop(∃ κ : ℕ, cellInv EX (sched m) κ (kcell ck) ∗ reached EX (kcell ck) 0))
          ∗ bigSep Finset.univ part) := by
    rw [← parts_eq, ← bigSep_sep']
    exact (bigSep_mono fun ck _ => alloc_one m ck).trans (bigSep_fupd _ _)
  refine ((bigSep_mono fun c _ => gather c).trans
    (Entails.of_eq (bigSep_univ_prod fun ck : Dev nD × Fin 6 => iprop(semVal (kcell ck) 0 ∗ fresh m ck)).symm)).trans
    (step.trans (BI.fupd_mono ?_))
  iintro ⟨HI, Hp⟩
  ihave HK := (BI.bigSep_exists_pi Finset.univ fun (ck : Dev nD × Fin 6) (κ : ℕ) =>
    (iprop(cellInv EX (sched m) κ (kcell ck) ∗ reached EX (kcell ck) 0) : sProp 𝕄)) $$ HI
  icases HK with ⟨%K, HK⟩
  iapply (Idealize.SL.BI.bigSep_with_persistent (R := records m K) (Φ := part) fun c _ => by
    unfold ready
    iintro ⟨HR, Hp⟩
    iexists K
    isplitl [HR] <;> iassumption)
  isplitl [HK]
  · unfold records; iexact HK
  · iexact Hp

/-! ## What a device may count on -/

/-- Of its debts at the launch, a device owes number `k` — the signal or the arrival — to its partner and to nobody else. -/
theorem owed_at (d c : Dev nD) (k : Fin 6) (hk : k = 0 ∨ k = 5) :
    owed₀ d (kcell (c, k)) () = if d = partner c then amt k else 0 := by
  have key (j : Fin 6) : (kcell (c, k) = kcell (partner d, j) ∧ () = ()) ↔ d = partner c ∧ k = j := by
    refine ⟨fun h => ?_, fun h => ⟨?_, rfl⟩⟩
    · have h' := kcell_injective h.1
      exact ⟨by rw [show c = partner d from congrArg Prod.fst h', partner_partner], congrArg Prod.snd h'⟩
    · rw [h.1, h.2, partner_partner]
  unfold owed₀
  rw [Pi.add_apply, Finsupp.add_apply, tallyAt_apply, tallyAt_apply, if_congr (key 5) rfl rfl, if_congr (key 0) rfl rfl]
  by_cases h : d = partner c
  · rcases hk with rfl | rfl
    · rw [if_neg (fun h => absurd h.2 (by decide)), if_pos ⟨h, rfl⟩, if_pos h]; rfl
    · rw [if_pos ⟨h, rfl⟩, if_neg (fun h => absurd h.2 (by decide)), if_pos h]; rfl
  · rw [if_neg fun h' => h h'.1, if_neg fun h' => h h'.1, if_neg h]

/-- What all devices together owe semaphore `k` of device `c` is what the wait for it takes. -/
theorem launch_at (c : Dev nD) (k : Fin 6) (hk : k = 0 ∨ k = 5) :
    tallyOn (kcell (c, k)) (launchCredit (Pipeline.owing owed₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed_at d c k hk,
    Finset.sum_ite_eq' Finset.univ (partner c) fun _ => amt k, if_pos (Finset.mem_univ _)]

/-- So at the launch a device may count on its signal and on its arrival. -/
theorem count_on (c : Dev nD) : (Pipeline.launchCred owed₀ c : sProp 𝕄) ⊢ promised c := by
  unfold Pipeline.launchCred promised
  rw [bigSep_univ_at _ (csem 0), launch_at c 0 (Or.inl rfl)]
  refine sep_mono_right ?_
  rw [← launch_at c 5 (Or.inr rfl)]
  exact bigSep_elim (Finset.mem_erase.mpr ⟨show csem 5 ≠ csem 0 by decide, Finset.mem_univ _⟩)

end

end Cert.KernelIdeal.Exchange

end
-- ==== Proof.KernelIdeal.Run.lean ====
/-
# The run

Every weakly fair execution of the kernel on the sixteen devices terminates, and at the end each device's result is the
assembled array, its argument is what it was, and every semaphore counter is zero. The float values are those of any
instance: the kernel moves them and computes none.
-/
module

public import proofs.«01_k».proof.Proof.KernelIdeal.Deal
public import Idealize.ShloMosaic.Lib.Pipeline.CollectiveSegs

@[expose] public section

noncomputable section

namespace Cert.KernelIdeal.Exchange

open Cert.Exchange
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

variable (ρ : Dev nD → PrngReg)

section
omit [FloatOps F]

/-- From what the launch gives a device to what its body starts from. -/
theorem enter (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ready m c)
      ⊢ (|={Set.univ}=> iprop(start m c ∗ emp) : sProp 𝕄) := by
  rw [Pipeline.unscopedRestP_none, unscopedRest0_eq]
  iintro ⟨Ha, Hl, Hc, -, Hr⟩
  ihave Hc := (count_on c) $$ Hc
  imodintro
  unfold start arrays
  isplitl
  · isplitl [Hr]; · iexact Hr
    isplitl [Hc]; · iexact Hc
    isplitl [Hl]; · iexact Hl
    iexact Ha
  · iempintro

/-- The four buffers are the ones the launch allots. -/
theorem buffers_eq (c : Dev nD) : (Pipeline.scopedRest (cfg0.spec) c : sProp 𝕄) = buffers c := by
  rw [scopedRest0_eq]; simp only [← holds_whole]; rfl

end

/-- The pipeline's first point, -/
theorem begin_point (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [buffers_eq]
  show _ ⊢ iprop(start m c ∗ buffers c)
  iintro ⟨Hs, -, Hb⟩
  isplitl [Hs] <;> iassumption

/-- and its last. -/
theorem end_point (c : Dev nD) :
    (dats m 0 c).Φ (Fin.last cfg0.N)
      ⊢ iprop((arrays m c (wanted m c) ∗ unscopedSems0 c) ∗ Pipeline.ownSems0 osem c ∗ Pipeline.scopedRest cfg0.spec c) := by
  rw [buffers_eq]
  show iprop(done m c ∗ buffers c) ⊢ _
  unfold done
  rw [counters_eq]
  iintro ⟨⟨Ha, Hu, Ho⟩, Hb⟩
  isplitl [Ha Hu]
  · isplitl [Ha] <;> iassumption
  isplitl [Ho] <;> iassumption

/-- What is read off a device's memory at the end. -/
def Ends (c : Dev nD) (s : MemSt nD τ sig (Elt F)) : Prop :=
  (s.mem ((c : Thread nD τ).loc main_v1) = wanted m c ∧ s.mem ((c : Thread nD τ).loc main_arg0) = given m c)
    ∧ ∀ sm : SemLoc sig, sm.isScoped .tc = false → s.sem ((c : Thread nD τ), sm) = 0

/-- At the end the memory is the one the device's assertion describes. -/
theorem read_off (c : Dev nD) (s : Phys nD τ sig (Elt F)) :
    iprop((arrays m c (wanted m c) ∗ unscopedSems0 c) ∗ emp ∗ SI s)
      ⊢ (|={Set.univ}=> iprop(⌜Ends m c s.mem⌝ ∗ SI s) : sProp 𝕄) := by
  unfold arrays
  iintro ⟨⟨⟨Hx, Ho⟩, Hu⟩, -, HSI⟩
  icombine HSI Hx gives %hx
  icombine HSI Ho gives %ho
  imod (Pipeline.unscopedSems0_read (X := unscopedSems0 c) (c := c) fupd_intro s) $$ [Hu HSI] with ⟨%hz, HSI⟩
  · isplitl [Hu] <;> iassumption
  imodintro
  isplitr
  · ipureintro
    exact ⟨⟨Buf.eq_of_forall_mem_univ ho, Buf.eq_of_forall_mem_univ hx⟩, hz⟩
  iexact HSI

set_option maxRecDepth 8000 in
/-- The run of the kernel: every device ends with its assembled array and its argument unchanged, and every counter at zero. -/
theorem run : θ_run defs (onTc (τ := τ) (main (F := F))) ⟨m, fun _ => 0, ρ⟩
    (fun r => (∀ c : Dev nD, r.2.mem ((c : Thread nD τ).loc main_v1) = wanted m c
        ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0)
    (hshare := fun _ w => w.elim0) (hdistinct := winFacts0.arr_inj)
    (O₀ := owed₀) (howed₀ := fun _ => rfl) (howedN := fun _ => rfl)
    (L := L) (lv := lv) (hL := L_of_ne)
    (hwaits := fun c => Pipeline.cellsWaits_intro cfgs (dats m) () 0 c fun w _ _ => w.elim0)
    (G := dealt m) (G' := ready m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := share_out m)
    (hA := fun _ w => w.elim0) (hpf := fun _ k => k.elim0)
    (X := start m) (Y := fun c => iprop(arrays m c (wanted m c) ∗ unscopedSems0 c)) (Z := fun _ => iprop(emp))
    (hX := enter m ρ) (hin := begin_point m) (hout := end_point m)
    (QY := Ends m) (hY := read_off m)
    (hQ := fun _ h hs => ⟨fun c => (h c).2.2.1, sem_eq_zero hs fun c => (h c).2.2.2⟩)

end Cert.KernelIdeal.Exchange

end
-- ==== Proof.Reference.Run.lean ====
/-
# The reference's run

The reference gives its argument back: it has no operation, so its result is the array it was given.
-/
module

public import proofs.«01_k».proof.Reference
public import proofs.«01_k».proof.Proof.Gen.Reference
public import Idealize.ShloMosaic.Lib.StableHlo.Run
public import Idealize.ShloMosaic.Lib.Quiescent

@[expose] public section

noncomputable section

namespace Cert.Reference.Whole

open Cert.Reference Cert.Reference.Gen
open Idealize.ShloMosaic Idealize.ShloMosaic.TcCoe Idealize.ShloMosaic.StableHlo Idealize.SL.Sem

variable {F : FTy → Type} [FloatOps F]

/-- Every weakly fair execution of the reference terminates, with its one array as it was and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)) ∧ r.2.sem = fun _ => 0 :=
  (θ_run defs _ _).mono (fun r h => ⟨fun c => h c main_arg0, sem_eq_zero_of_no_sems rfl r.2⟩)
    (run_seq (by decide) (by decide) defs main (fun _ => []) (fun _ => rfl) (fun _ => trivial) m ρ)

end Cert.Reference.Whole

end
-- ==== Proof.ReferenceIdeal.Run.lean ====
/-
# The reference's run

The reference gives its argument back: it has no operation, so its result is the array it was given.
-/
module

public import proofs.«01_k».proof.ReferenceIdeal
public import proofs.«01_k».proof.Proof.Gen.ReferenceIdeal
public import Idealize.ShloMosaic.Lib.StableHlo.Run
public import Idealize.ShloMosaic.Lib.Quiescent

@[expose] public section

noncomputable section

namespace Cert.ReferenceIdeal.Whole

open Cert.ReferenceIdeal Cert.ReferenceIdeal.Gen
open Idealize.ShloMosaic Idealize.ShloMosaic.TcCoe Idealize.ShloMosaic.StableHlo Idealize.SL.Sem

variable {F : FTy → Type} [FloatOps F]

/-- Every weakly fair execution of the reference terminates, with its one array as it was and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)) ∧ r.2.sem = fun _ => 0 :=
  (θ_run defs _ _).mono (fun r h => ⟨fun c => h c main_arg0, sem_eq_zero_of_no_sems rfl r.2⟩)
    (run_seq (by decide) (by decide) defs main (fun _ => []) (fun _ => rfl) (fun _ => trivial) m ρ)

end Cert.ReferenceIdeal.Whole

end
-- ==== Proof.lean ====
/-
# The claims

The kernel on its sixteen devices turns an array cut by rows into the same array cut by columns. Here its run and the
reference's are put together: the frames of all four programs, and the two value claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Kernel.Run
public import proofs.«01_k».proof.Proof.KernelIdeal.Run
public import proofs.«01_k».proof.Proof.Reference.Run
public import proofs.«01_k».proof.Proof.ReferenceIdeal.Run
public import Idealize.ShloMosaic.Adequacy
public import Idealize.ShloMosaic.Init

@[expose] public section

noncomputable section

namespace Cert.Proof

open Idealize.ShloMosaic Idealize.SL.Sem Cert

/-! ## The frames: each program's run, without its result -/

/-- The kernel terminates, its argument unchanged and every counter at zero, at the machine's formats; -/
theorem frame_kernel : quiescent_Kernel := fun m g _ =>
  (θ_run _ _ _).mono (fun _ h => ⟨fun c => (h.1 c).2, h.2⟩) (Kernel.Exchange.run m g)

/-- over the extended reals; -/
theorem frame_kernelIdeal : quiescent_KernelIdeal := fun m g _ =>
  (θ_run _ _ _).mono (fun _ h => ⟨fun c => (h.1 c).2, h.2⟩) (KernelIdeal.Exchange.run m g)

/-- and so does the reference, over the extended reals -/
theorem frame_referenceIdeal : quiescent_ReferenceIdeal := fun m g _ => ReferenceIdeal.Whole.run m g

/-- and at the machine's formats. -/
theorem frame_reference : quiescent_Reference := fun m g _ => Reference.Whole.run m g

/-! ## The values: the devices' results are the column blocks of the array whose row blocks they were given -/

/-- Over the extended reals, the kernel's results are the column blocks of the reference's. -/
theorem algebraic : algebraic_KernelIdeal_ReferenceIdeal := fun m g m' g' _ hm =>
  ⟨m' (((0 : Dev ReferenceIdeal.nD).tc : Thread ReferenceIdeal.nD ReferenceIdeal.τ).loc ReferenceIdeal.main_arg0),
    (θ_run _ _ _).mono
      (fun _ h c => ⟨(h.1 c).1.trans (Exchange.assembled_blocks _ (KernelIdeal.Exchange.given m) hm c), (h.1 c).2⟩)
      (KernelIdeal.Exchange.run m g),
    (θ_run _ _ _).mono (fun _ h => ⟨h.1 0, h.1 0⟩) (ReferenceIdeal.Whole.run m' g')⟩

/-- The same bit for bit, at the machine's formats. -/
theorem bitexact : bitexact_Kernel_Reference := fun m g m' g' _ hm =>
  ⟨m' (((0 : Dev Reference.nD).tc : Thread Reference.nD Reference.τ).loc Reference.main_arg0),
    (θ_run _ _ _).mono
      (fun _ h c => ⟨(h.1 c).1.trans (Exchange.assembled_blocks _ (Kernel.Exchange.given m) hm c), (h.1 c).2⟩)
      (Kernel.Exchange.run m g),
    (θ_run _ _ _).mono (fun _ h => ⟨h.1 0, h.1 0⟩) (Reference.Whole.run m' g')⟩

/-- Everything claimed. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
